-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x3072x13568 : Shape := ⟨3, ![3, 3072, 13568]⟩
abbrev S3x3072x1 : Shape := ⟨3, ![3, 3072, 1]⟩
abbrev S13568x1408 : Shape := ⟨2, ![13568, 1408]⟩
abbrev S1408 : Shape := ⟨1, ![1408]⟩
abbrev S9216x13568 : Shape := ⟨2, ![9216, 13568]⟩
abbrev S9216x1 : Shape := ⟨2, ![9216, 1]⟩
abbrev S1x1408 : Shape := ⟨2, ![1, 1408]⟩
abbrev S9216x1408 : Shape := ⟨2, ![9216, 1408]⟩
abbrev S256x13568 : Shape := ⟨2, ![256, 13568]⟩
abbrev S256x1 : Shape := ⟨2, ![256, 1]⟩
abbrev S256x1408 : Shape := ⟨2, ![256, 1408]⟩
abbrev S13568x1280 : Shape := ⟨2, ![13568, 1280]⟩
abbrev S256x1280 : Shape := ⟨2, ![256, 1280]⟩
abbrev S13568x256 : Shape := ⟨2, ![13568, 256]⟩
abbrev S256x256 : Shape := ⟨2, ![256, 256]⟩
abbrev S256x128 : Shape := ⟨2, ![256, 128]⟩
abbrev S256 : Shape := ⟨1, ![256]⟩

abbrev nBuf : Space → Nat
  | .hbm => 11
  | .vmem => 11
  | .smem => 0
  | _ => 0

abbrev bufTy : (tb : Table) → Fin (tcTables nBuf tb) → BufTy
  | .hbm, ⟨0, _⟩ => ⟨S3x3072x13568, .fp8e4m3⟩
  | .hbm, ⟨1, _⟩ => ⟨S3x3072x1, .f32⟩
  | .hbm, ⟨2, _⟩ => ⟨S13568x1408, .fp8e4m3⟩
  | .hbm, ⟨3, _⟩ => ⟨S1408, .f32⟩
  | .hbm, ⟨4, _⟩ => ⟨S1408, .f32⟩
  | .hbm, ⟨5, _⟩ => ⟨S9216x13568, .fp8e4m3⟩
  | .hbm, ⟨6, _⟩ => ⟨S9216x1, .f32⟩
  | .hbm, ⟨7, _⟩ => ⟨S1x1408, .f32⟩
  | .hbm, ⟨8, _⟩ => ⟨S1x1408, .f32⟩
  | .hbm, ⟨9, _⟩ => ⟨S9216x1, .f32⟩
  | .hbm, ⟨10, _⟩ => ⟨S9216x1408, .fp8e4m3⟩
  | .local _ .vmem, ⟨0, _⟩ => ⟨S256x13568, .fp8e4m3⟩
  | .local _ .vmem, ⟨1, _⟩ => ⟨S256x13568, .fp8e4m3⟩
  | .local _ .vmem, ⟨2, _⟩ => ⟨S256x1, .f32⟩
  | .local _ .vmem, ⟨3, _⟩ => ⟨S256x1, .f32⟩
  | .local _ .vmem, ⟨4, _⟩ => ⟨S13568x1408, .fp8e4m3⟩
  | .local _ .vmem, ⟨5, _⟩ => ⟨S1x1408, .f32⟩
  | .local _ .vmem, ⟨6, _⟩ => ⟨S1x1408, .f32⟩
  | .local _ .vmem, ⟨7, _⟩ => ⟨S256x1, .f32⟩
  | .local _ .vmem, ⟨8, _⟩ => ⟨S256x1, .f32⟩
  | .local _ .vmem, ⟨9, _⟩ => ⟨S256x1408, .fp8e4m3⟩
  | .local _ .vmem, ⟨10, _⟩ => ⟨S256x1408, .fp8e4m3⟩
  | _, _ => ⟨S3x3072x13568, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x13568 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S13568x1408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x3072x13568 : Shape := ⟨3, ![3, 3072, 13568]⟩
abbrev S3x3072x1 : Shape := ⟨3, ![3, 3072, 1]⟩
abbrev S13568x1408 : Shape := ⟨2, ![13568, 1408]⟩
abbrev S1408 : Shape := ⟨1, ![1408]⟩
abbrev S9216x13568 : Shape := ⟨2, ![9216, 13568]⟩
abbrev S9216x1 : Shape := ⟨2, ![9216, 1]⟩
abbrev S1x1408 : Shape := ⟨2, ![1, 1408]⟩
abbrev S9216x1408 : Shape := ⟨2, ![9216, 1408]⟩
abbrev S9216 : Shape := ⟨1, ![9216]⟩
abbrev S1x254 : Shape := ⟨2, ![1, 254]⟩
abbrev S9216x254 : Shape := ⟨2, ![9216, 254]⟩

abbrev nBuf : Space → Nat
  | .hbm => 11
  | .vmem => 7
  | .smem => 0
  | _ => 0

abbrev bufTy : (tb : Table) → Fin (tcTables nBuf tb) → BufTy
  | .hbm, ⟨0, _⟩ => ⟨S3x3072x13568, .fp8e4m3⟩
  | .hbm, ⟨1, _⟩ => ⟨S3x3072x1, .f32⟩
  | .hbm, ⟨2, _⟩ => ⟨S13568x1408, .fp8e4m3⟩
  | .hbm, ⟨3, _⟩ => ⟨S1408, .f32⟩
  | .hbm, ⟨4, _⟩ => ⟨S1408, .f32⟩
  | .hbm, ⟨5, _⟩ => ⟨S9216x13568, .fp8e4m3⟩
  | .hbm, ⟨6, _⟩ => ⟨S9216x1, .f32⟩
  | .hbm, ⟨7, _⟩ => ⟨S1x1408, .f32⟩
  | .hbm, ⟨8, _⟩ => ⟨S1x1408, .f32⟩
  | .hbm, ⟨9, _⟩ => ⟨S9216x1, .f32⟩
  | .hbm, ⟨10, _⟩ => ⟨S9216x1408, .fp8e4m3⟩
  | .local _ .vmem, ⟨0, _⟩ => ⟨S9216x13568, .fp8e4m3⟩
  | .local _ .vmem, ⟨1, _⟩ => ⟨S9216x1, .f32⟩
  | .local _ .vmem, ⟨2, _⟩ => ⟨S13568x1408, .fp8e4m3⟩
  | .local _ .vmem, ⟨3, _⟩ => ⟨S1x1408, .f32⟩
  | .local _ .vmem, ⟨4, _⟩ => ⟨S1x1408, .f32⟩
  | .local _ .vmem, ⟨5, _⟩ => ⟨S9216x1, .f32⟩
  | .local _ .vmem, ⟨6, _⟩ => ⟨S9216x1408, .fp8e4m3⟩
  | _, _ => ⟨S3x3072x13568, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S9216x13568 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13568x1408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x1408 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Exponent.lean ====
/-
  The EXPONENT of the requantisation's scale, one row at a time, at the extended reals (hand-written, untrusted).
  The kernel finds the exponent of `m` by bisecting the biased exponents 0..255, comparing `m` with the float of each candidate's word;
  the reference counts the powers of two that `m` reaches. `expK_eq_expR` says that the two agree at every `m`, infinities included.
  The kernel builds the power of two `2 ^ e` by placing a clipped biased exponent in a word, the reference by `exp2`;
  `scaleK_expR` and `scaleK_neg_expR` say that the two agree at every exponent that occurs and at its negation.
-/
module

public import Idealize.ShloMosaic.PureOps.Ideal.Laws
public import Idealize.ShloMosaic.Lib.IndicatorCount
public import Idealize.ShloMosaic.Lib.ValueIdx

@[expose] public section

noncomputable section

namespace Cert.Proof.Exponent

open Idealize.ShloMosaic

/-! ## The two programs' scalar functions -/

/-- The float whose word has `b` as its exponent field and zeros elsewhere. -/
def pow (b : BitVec 32) : EReal := Ideal.ofBits .f32 (IntOp.shli .vector b 23#32)

/-- One step of the kernel's bisection: `s` is added to the biased exponent where `m` reaches the float of the sum. -/
def step (m : EReal) (b s : BitVec 32) : BitVec 32 :=
  Scalar.select (Ideal.cmp .oge m (pow (IntOp.addi b s))) (IntOp.addi b s) b

/-- The kernel's biased exponent of `m`: eight steps from zero. -/
def biased (m : EReal) : BitVec 32 :=
  step m (step m (step m (step m (step m (step m (step m (step m 0#32 128#32) 64#32) 32#32) 16#32) 8#32) 4#32) 2#32) 1#32

/-- The kernel's exponent of a row whose greatest magnitude is `a` and whose scaled magnitude is `m`. -/
def expK (a m : EReal) : BitVec 32 :=
  Scalar.select (Ideal.cmp .oeq a (Ideal.ofBits .f32 0x00000000#32)) 0#32
    (Scalar.select (IntOp.ori (IntOp.cmpi .eq (biased m) 0#32) (IntOp.cmpi .eq (biased m) 255#32)) 0#32
      (IntOp.subi (biased m) 126#32))

/-- The kernel's power of two: the exponent field is `e + 127` clipped to `[0, 255]`. -/
def scaleK (e : BitVec 32) : EReal := pow (IntOp.minsi 255#32 (IntOp.maxsi 0#32 (IntOp.addi e 127#32)))

/-- The reference's power of two: infinity above exponent 127, zero below -126, `exp2` between. -/
def scaleR (e : BitVec 32) : EReal :=
  Scalar.select (IntOp.cmpi .sgt e 127#32) (Ideal.ofBits .f32 0x7F800000#32)
    (Scalar.select (IntOp.cmpi .slt e 4294967170#32) (Ideal.ofBits .f32 0x00000000#32) (Ideal.exp2 ((e.toInt : ℝ) : EReal)))

/-- The reference's count: how many of the powers of two from `2 ^ -126` to `2 ^ 127` are at most `m`. -/
def count (m : EReal) : BitVec 32 :=
  (Finset.univ : Finset (Fin 254)).fold IntOp.addi 0#32
    (fun k => (Ideal.cmp .ole (scaleR (IntOp.subi (BitVec.ofNat 32 k.val) 126#32)) m).setWidth 32)

/-- The reference's exponent of a row whose greatest magnitude is `a` and whose scaled magnitude is `m`. -/
def expR (a m : EReal) : BitVec 32 :=
  Scalar.select (Ideal.cmp .oeq a (Ideal.ofBits .f32 0x00000000#32)) 0#32
    (Scalar.select (IntOp.andi (Ideal.cmp .oge m (Ideal.ofBits .f32 0x00800000#32)) (Ideal.cmp .olt m (Ideal.ofBits .f32 0x7F800000#32)))
      (IntOp.subi (count m) 126#32) 0#32)

/-! ## What the words denote -/

/-- The power of two with biased exponent `n`: zero at 0, infinity at 255. -/
def p (n : ℕ) : EReal := if n = 255 then ⊤ else if n = 0 then 0 else (((2 : ℝ) ^ ((n : ℤ) - 127) : ℝ) : EReal)

theorem fields : ∀ n < 256, ((BitVec.ofNat 32 n <<< (23#32)).extractLsb' 31 1 == 1#1) = false
    ∧ ((BitVec.ofNat 32 n <<< (23#32)).extractLsb' 23 8).toNat = n
    ∧ ((BitVec.ofNat 32 n <<< (23#32)).extractLsb' 0 23).toNat = 0 := by decide +kernel

/-- The word with exponent field `n` denotes the power of two with biased exponent `n`. -/
theorem pow_ofNat {n : ℕ} (hn : n < 256) : pow (BitVec.ofNat 32 n) = p n := by
  obtain ⟨h1, h2, h3⟩ := fields n hn
  have hs : IntOp.shli .vector (BitVec.ofNat 32 n) 23#32 = BitVec.ofNat 32 n <<< (23#32) := by
    unfold IntOp.shli; rw [if_pos (by decide)]
  unfold pow p
  rw [hs]
  show Ideal.ieee 8 23 _ = _
  unfold Ideal.ieee
  simp only [Nat.reduceAdd, h1, h2, h3]
  by_cases e : n = 255
  · simp [e]
  · by_cases z : n = 0
    · simp [z]
    · rw [if_neg (by omega), if_neg z, if_neg e, if_neg z]
      refine congrArg Real.toEReal ?_
      rw [show ((n : ℤ) - 127) = ((n : ℤ) - (2 ^ (8 - 1) - 1) - ((23 : ℕ) : ℤ)) + 23 by norm_num,
        zpow_add₀ (two_ne_zero)]
      norm_num
      ring

/-- Infinity's word denotes infinity. -/
theorem ofBits_inf : Ideal.ofBits .f32 0x7F800000#32 = ⊤ := by simp [Ideal.ofBits, Ideal.ieee]

/-- The zero word denotes zero. -/
theorem ofBits_zero : Ideal.ofBits .f32 0x00000000#32 = 0 := by simp [Ideal.ofBits, Ideal.ieee]

/-- The least normal word denotes the power of two with biased exponent 1. -/
theorem ofBits_one : Ideal.ofBits .f32 0x00800000#32 = p 1 := by
  rw [← pow_ofNat (by decide)]
  rfl

/-- The powers of two increase with the biased exponent. -/
theorem p_mono {a b : ℕ} (h : a ≤ b) (hb : b ≤ 255) : p a ≤ p b := by
  unfold p
  by_cases eb : b = 255
  · rw [if_pos eb]; exact le_top
  · rw [if_neg eb, if_neg (show a ≠ 255 by omega)]
    by_cases za : a = 0
    · rw [if_pos za]
      split
      · exact le_rfl
      · exact EReal.coe_nonneg.2 (by positivity)
    · rw [if_neg za, if_neg (show b ≠ 0 by omega)]
      exact EReal.coe_le_coe_iff.2 (zpow_le_zpow_right₀ (by norm_num) (by omega))

theorem p_top : p 255 = ⊤ := rfl

/-- A select on a decided bit is an `if`. -/
theorem sel_ofBool {α : Type} (c : Prop) [Decidable c] (x y : α) : Scalar.select (BitVec.ofBool (decide c)) x y = if c then x else y := by
  by_cases h : c
  · rw [decide_eq_true h, if_pos h]; rfl
  · rw [decide_eq_false h, if_neg h]; rfl

/-- The reference's power of two at any exponent is the power of two whose biased exponent is the clipped one. -/
theorem scaleR_eq {e : BitVec 32} {n : ℕ} (h : (n : ℤ) = min 255 (max 0 (e.toInt + 127))) : scaleR e = p n := by
  unfold scaleR p
  rw [ofBits_inf, ofBits_zero]
  have h1 : IntOp.cmpi .sgt e 127#32 = BitVec.ofBool (decide (127 < e.toInt)) := rfl
  have h2 : IntOp.cmpi .slt e 4294967170#32 = BitVec.ofBool (decide (e.toInt < -126)) := rfl
  rw [h1, h2]
  rw [sel_ofBool, sel_ofBool]
  by_cases c1 : 127 < e.toInt
  · rw [if_pos c1, if_pos (by omega)]
  · rw [if_neg c1, if_neg (show n ≠ 255 by omega)]
    by_cases c2 : e.toInt < -126
    · rw [if_pos c2, if_pos (by omega)]
    · rw [if_neg c2, if_neg (show n ≠ 0 by omega), Ideal.exp2_coe]
      refine congrArg Real.toEReal ?_
      rw [show ((n : ℤ) - 127) = e.toInt by omega]
      exact Real.rpow_intCast 2 _

/-! ## The bisection -/

/-- What a step of width `w` finds: `m` reaches the power at `b`, unless `b` is 0, and does not reach the one at `b + w`, unless that is 256. -/
def Between (m : EReal) (b w : ℕ) : Prop := b + w ≤ 256 ∧ (b = 0 ∨ p b ≤ m) ∧ (b + w = 256 ∨ ¬ p (b + w) ≤ m)

/-- A step halves the width. -/
theorem step_spec {m : EReal} {b : BitVec 32} {s : ℕ} (hs : 0 < s) (h : ∃ n, b = BitVec.ofNat 32 n ∧ Between m n (2 * s)) :
    ∃ n, step m b (BitVec.ofNat 32 s) = BitVec.ofNat 32 n ∧ Between m n s := by
  obtain ⟨n, rfl, hle, h0, h1⟩ := h
  have hadd : IntOp.addi (BitVec.ofNat 32 n) (BitVec.ofNat 32 s) = BitVec.ofNat 32 (n + s) := (BitVec.ofNat_add n s).symm
  have hp : pow (BitVec.ofNat 32 (n + s)) = p (n + s) := pow_ofNat (by omega)
  unfold step
  rw [hadd, hp]
  by_cases c : p (n + s) ≤ m
  · refine ⟨n + s, ?_, by omega, Or.inr c, ?_⟩
    · unfold Ideal.cmp; simp only [c, decide_true]; rfl
    · rw [show n + s + s = n + 2 * s by omega]; exact h1
  · refine ⟨n, ?_, by omega, h0, Or.inr c⟩
    unfold Ideal.cmp; simp only [c, decide_false]; rfl

/-- The biased exponent is the greatest of 1..255 whose power `m` reaches, or 0. -/
theorem biased_spec (m : EReal) : ∃ n, biased m = BitVec.ofNat 32 n ∧ Between m n 1 := by
  have h0 : ∃ n, (0#32 : BitVec 32) = BitVec.ofNat 32 n ∧ Between m n (2 * 128) :=
    ⟨0, rfl, by omega, Or.inl rfl, Or.inl rfl⟩
  exact step_spec (s := 1) (by omega) (step_spec (s := 2) (by omega) (step_spec (s := 4) (by omega)
    (step_spec (s := 8) (by omega) (step_spec (s := 16) (by omega) (step_spec (s := 32) (by omega)
      (step_spec (s := 64) (by omega) (step_spec (s := 128) (by omega) h0)))))))

/-! ## The count -/

theorem toInt_sub : ∀ k < 256, (IntOp.subi (BitVec.ofNat 32 k) 126#32).toInt = (k : ℤ) - 126 := by decide +kernel

/-- The reference's count is the number of the powers with biased exponents 1..254 that `m` reaches. -/
theorem count_eq_card (m : EReal) : count m = BitVec.ofNat 32 (Finset.univ.filter fun k : Fin 254 => p (k.val + 1) ≤ m).card := by
  unfold count
  rw [IndicatorCount.fold_addi_setWidth_eq_card (fun k : Fin 254 => Ideal.cmp .ole (scaleR (IntOp.subi (BitVec.ofNat 32 k.val) 126#32)) m)]
  congr 2
  refine Finset.filter_congr fun k _ => ?_
  have hk := k.isLt
  rw [scaleR_eq (n := k.val + 1) (by rw [toInt_sub _ (by omega)]; push_cast; omega)]
  unfold Ideal.cmp
  by_cases c : p (k.val + 1) ≤ m <;> simp [c]

/-- Where the biased exponent is `n < 255`, the count is `n`. -/
theorem count_eq {m : EReal} {n : ℕ} (h : Between m n 1) (hn : n < 255) : count m = BitVec.ofNat 32 n := by
  obtain ⟨_, h0, h1⟩ := h
  rw [count_eq_card]
  congr 1
  have e : (Finset.univ.filter fun k : Fin 254 => p (k.val + 1) ≤ m) = Finset.univ.filter fun k : Fin 254 => k.val < n := by
    refine Finset.filter_congr fun k _ => ⟨fun hk => ?_, fun hk => ?_⟩
    · by_contra c
      rcases h1 with h1 | h1
      · omega
      · exact h1 (le_trans (p_mono (by omega) (by have := k.isLt; omega)) hk)
    · rcases h0 with h0 | h0
      · omega
      · exact le_trans (p_mono (by omega) (by omega)) h0
  rw [e, Fin.card_filter_val_lt]
  omega

/-! ## The two exponents agree -/

theorem eq_words : ∀ n < 256, IntOp.ori (IntOp.cmpi .eq (BitVec.ofNat 32 n) 0#32) (IntOp.cmpi .eq (BitVec.ofNat 32 n) 255#32)
    = BitVec.ofBool (decide (n = 0 ∨ n = 255)) := by decide +kernel

/-- The exponent of `m` by either program: `n - 126` where the biased exponent `n` is neither 0 nor 255, zero where it is. -/
def expo (n : ℕ) : BitVec 32 := if n = 0 ∨ n = 255 then 0#32 else IntOp.subi (BitVec.ofNat 32 n) 126#32

/-- The conjunction of two decided bits. -/
theorem and_ofBool (c d : Prop) [Decidable c] [Decidable d] :
    IntOp.andi (BitVec.ofBool (decide c)) (BitVec.ofBool (decide d)) = BitVec.ofBool (decide (c ∧ d)) := by
  by_cases h : c <;> by_cases h' : d <;> simp [h, h', IntOp.andi]

/-- Both programs' exponents are `expo` of the biased exponent, or zero where the row's greatest magnitude is zero. -/
theorem exps_eq (a m : EReal) : ∃ n < 256, expK a m = (if a = 0 then 0#32 else expo n) ∧ expR a m = (if a = 0 then 0#32 else expo n) := by
  obtain ⟨n, hb, hm⟩ := biased_spec m
  have hn : n < 256 := by have := hm.1; omega
  refine ⟨n, hn, ?_, ?_⟩
  · unfold expK expo
    rw [hb, eq_words n hn, ofBits_zero]
    unfold Ideal.cmp
    rw [sel_ofBool, sel_ofBool]
  · unfold expR expo
    rw [ofBits_zero, ofBits_inf, ofBits_one]
    unfold Ideal.cmp
    simp only []
    rw [and_ofBool, sel_ofBool, sel_ofBool]
    congr 1
    by_cases e : n = 255
    · subst e
      rw [if_pos (Or.inr rfl), if_neg]
      rintro ⟨_, h⟩
      rcases hm.2.1 with h' | h'
      · omega
      · rw [p_top, top_le_iff] at h'; exact absurd h (by rw [h']; exact lt_irrefl _)
    · by_cases z : n = 0
      · subst z
        rw [if_pos (Or.inl rfl), if_neg]
        rintro ⟨h, _⟩
        rcases hm.2.2 with h' | h'
        · omega
        · exact h' h
      · rw [if_neg (show ¬(n = 0 ∨ n = 255) by omega), if_pos, count_eq hm (by omega)]
        refine ⟨?_, ?_⟩
        · rcases hm.2.1 with h' | h'
          · omega
          · exact le_trans (p_mono (by omega) (by omega)) h'
        · rcases hm.2.2 with h' | h'
          · omega
          · rw [lt_top_iff_ne_top]
            rintro rfl
            exact h' le_top

/-- **The kernel's exponent is the reference's**, at every greatest magnitude and every scaled magnitude. -/
theorem expK_eq_expR (a m : EReal) : expK a m = expR a m := by
  obtain ⟨n, _, h1, h2⟩ := exps_eq a m
  rw [h1, h2]

/-! ## The two powers of two agree -/

/-- The kernel's clipped word, at each exponent that occurs. -/
theorem clip_expo : ∀ n < 256, IntOp.minsi 255#32 (IntOp.maxsi 0#32 (IntOp.addi (expo n) 127#32))
      = BitVec.ofNat 32 (min 255 (max 0 ((expo n).toInt + 127))).toNat
    ∧ IntOp.minsi 255#32 (IntOp.maxsi 0#32 (IntOp.addi (IntOp.subi 0#32 (expo n)) 127#32))
      = BitVec.ofNat 32 (min 255 (max 0 ((IntOp.subi 0#32 (expo n)).toInt + 127))).toNat := by decide +kernel

theorem scaleK_eq {e : BitVec 32} (h : IntOp.minsi 255#32 (IntOp.maxsi 0#32 (IntOp.addi e 127#32))
    = BitVec.ofNat 32 (min 255 (max 0 (e.toInt + 127))).toNat) : scaleK e = scaleR e := by
  unfold scaleK
  rw [h, pow_ofNat (by omega), scaleR_eq]
  omega

/-- Every exponent is `expo` of some biased exponent. -/
theorem expR_mem (a m : EReal) : ∃ n < 256, expR a m = expo n := by
  obtain ⟨n, hn, _, h⟩ := exps_eq a m
  by_cases ha : a = 0
  · exact ⟨0, by omega, by rw [h, if_pos ha]; rfl⟩
  · exact ⟨n, hn, by rw [h, if_neg ha]⟩

/-- **The kernel's power of two is the reference's** at the row's exponent. -/
theorem scaleK_expR (a m : EReal) : scaleK (expR a m) = scaleR (expR a m) := by
  obtain ⟨n, hn, h⟩ := expR_mem a m
  rw [h]
  exact scaleK_eq (clip_expo n hn).1

/-- **The kernel's power of two is the reference's** at the row's exponent negated. -/
theorem scaleK_neg_expR (a m : EReal) : scaleK (IntOp.subi 0#32 (expR a m)) = scaleR (IntOp.subi 0#32 (expR a m)) := by
  obtain ⟨n, hn, h⟩ := expR_mem a m
  rw [h]
  exact scaleK_eq (clip_expo n hn).2

end Cert.Proof.Exponent

end
-- ==== Proof.Row.lean ====
/-
  What the problem computes, one row at a time, at the extended reals (hand-written, untrusted): the linear layer's row, its greatest
  magnitude, the power of two it is divided by, and the quotient clipped to the eight-bit format's range. Both programs' results are
  stated with these functions.
-/
module

public import proofs.«01_k».proof.Proof.Exponent
public import Idealize.ShloMosaic.Lib.ValueIdx

@[expose] public section

noncomputable section

namespace Cert.Proof.Row

open Idealize.ShloMosaic Idealize.ShloMosaic.ValueIdx Cert.Proof.Exponent

/-- Entry `j` of the linear layer's row: the dot product of the row `x` with column `j` of `w`, times the row's scale, times the
    column's scale, plus the bias. -/
def lin (x : Fin 13568 → EReal) (xs : EReal) (w : Fin 13568 → Fin 1408 → EReal) (ws b : Fin 1408 → EReal) (j : Fin 1408) : EReal :=
  (∑ k : Fin 13568, x k * w k j) * xs * ws j + b j

/-- The greatest magnitude of a row, `-inf` the neutral start. -/
def amax (y : Fin 1408 → EReal) : EReal :=
  (Finset.univ : Finset (Fin 1408)).fold max (Ideal.ofBits .f32 0xFF800000#32) (fun j => max (y j) (-(y j)))

/-- The greatest magnitude times the single-precision reciprocal of 448. -/
def scaled (y : Fin 1408 → EReal) : EReal := amax y * Ideal.ofBits .f32 0x3B124925#32

/-- The exponent of the row's power of two. -/
def exponent (y : Fin 1408 → EReal) : BitVec 32 := expR (amax y) (scaled y)

/-- The row's scale, a power of two. -/
def scale (y : Fin 1408 → EReal) : EReal := scaleR (exponent y)

/-- Entry `j` of the requantised row: the entry times the reciprocal power of two, clipped to -448..448. -/
def code (y : Fin 1408 → EReal) (j : Fin 1408) : EReal :=
  min (Ideal.ofBits .f32 0x43E00000#32) (max (Ideal.ofBits .f32 0xC3E00000#32) (y j * scaleR (IntOp.subi 0#32 (exponent y))))

/-! ## Of arrays of any number of rows -/

/-- An array of two axes at the extended reals. -/
abbrev Arr (M N : Nat) := (⟨2, ![M, N]⟩ : Shape).Idx → EReal

/-- Row `r` of the linear layer of the arrays: `x` with one scale a row, `w` with one scale and one bias a column. -/
def rowOf {M : Nat} (x : Arr M 13568) (xs : Arr M 1) (w : Arr 13568 1408) (ws b : Arr 1 1408) (r : Fin M) : Fin 1408 → EReal :=
  lin (fun k => x (ix2 r k)) (xs (ix2 r 0)) (fun k j => w (ix2 k j)) (fun j => ws (ix2 0 j)) (fun j => b (ix2 0 j))

/-- Every row's scale. -/
def scales {M : Nat} (x : Arr M 13568) (xs : Arr M 1) (w : Arr 13568 1408) (ws b : Arr 1 1408) : Arr M 1 :=
  fun i => scale (rowOf x xs w ws b (i 0))

/-- Every row's codes. -/
def codes {M : Nat} (x : Arr M 13568) (xs : Arr M 1) (w : Arr 13568 1408) (ws b : Arr 1 1408) : Arr M 1408 :=
  fun i => code (rowOf x xs w ws b (i 0)) (i 1)

end Cert.Proof.Row

end
-- ==== Proof.Block.lean ====
/-
  What ONE GRID POINT of the kernel computes (hand-written, untrusted): the two blocks that it writes back, entry by entry, as the row
  functions of `Row.lean` of the blocks that it read. `lin_apply` is the linear layer (the two matrix products laid side by side),
  `amax_apply` the row's greatest magnitude, `exp_apply` the exponent; `out5_apply` is the scale's block and `out6_apply` the codes'.
-/
module

public import proofs.«01_k».proof.Proof.Row
public import proofs.«01_k».proof.Proof.Gen.KernelIdeal.Frame
public import Idealize.ShloMosaic.Lib.MatmulPlain
public import Idealize.ShloMosaic.Lib.Pipeline.ValueKit.Tiles
public import Idealize.ShloMosaic.Lib.ValueLayout
public import Idealize.ShloMosaic.Lib.ValueLayoutCasts

@[expose] public section

set_option maxRecDepth 16384

noncomputable section

namespace Cert.Proof.Block

open Idealize.ShloMosaic Idealize.ShloMosaic.ValueIdx Cert.Proof.Exponent Cert.Proof.Row
open Cert.KernelIdeal Cert.KernelIdeal.Gen

local instance : Cert.KernelIdeal.Facts := Cert.KernelIdeal.Gen.facts

/-! ## The linear layer -/

/-- A column `[256, 1]` broadcast to `[256, 1408]` reads its row. -/
theorem col_apply (v : S256x1.Idx → EReal) (h : S256x1.Broadcasts S256x1408) (r : Fin 256) (j : Fin 1408) :
    broadcastTo S256x1408 v h (ix2 r j) = v (ix2 r 0) :=
  broadcastTo_apply v h (ix2 r j) (ix2 r 0) (fun a => by fin_cases a <;> rfl)

/-- Columns 0..1279 of the linear layer's product come from the first matrix product. -/
theorem matmul_left (v0 : Vec Ideal S256x13568 .fp8e4m3) (v2 : Vec Ideal S13568x1280 .fp8e4m3) (r : Fin 256) (j : Fin 1280) :
    matmul (φ₁ := .fp8e4m3) (φ₂ := .fp8e4m3) dot_S256x13568_S13568x1280_S256x1280_1_0_0_1_n_n none v0 v2
      (constant S256x1280 .f32 0x00000000#32 : FVec Ideal S256x1280 .f32) (ix2 r j)
      = ∑ k : Fin 13568, (v0 (ix2 r k) : EReal) * v2 (ix2 k j) := by
  refine (Ideal.matmul_plain_apply (M := 256) (K := 13568) (N := 1280) none v0 v2 _ r j).trans ?_
  show Ideal.ofBits .f32 0x00000000#32 + _ = _
  rw [ofBits_zero, zero_add]

/-- The second matrix product. -/
theorem matmul_right (v0 : Vec Ideal S256x13568 .fp8e4m3) (v4 : Vec Ideal S13568x256 .fp8e4m3) (r : Fin 256) (j : Fin 256) :
    matmul (φ₁ := .fp8e4m3) (φ₂ := .fp8e4m3) dot_S256x13568_S13568x256_S256x256_1_0_0_1_n_n none v0 v4
      (constant S256x256 .f32 0x00000000#32 : FVec Ideal S256x256 .f32) (ix2 r j)
      = ∑ k : Fin 13568, (v0 (ix2 r k) : EReal) * v4 (ix2 k j) := by
  refine (Ideal.matmul_plain_apply (M := 256) (K := 13568) (N := 256) none v0 v4 _ r j).trans ?_
  show Ideal.ofBits .f32 0x00000000#32 + _ = _
  rw [ofBits_zero, zero_add]

/-- The two products laid side by side are the product with the whole of `w`, when the first reads the columns of `w` from 0 on and the
    second those from 1152 on. -/
theorem matmul_apply (v0 : Vec Ideal S256x13568 .fp8e4m3) (v2 : Vec Ideal S13568x1280 .fp8e4m3) (v4 : Vec Ideal S13568x256 .fp8e4m3)
    (w : Fin 13568 → Fin 1408 → EReal)
    (h2 : ∀ (k : Fin 13568) (j : Fin 1280), v2 (ix2 k j) = w k ⟨j.val, by omega⟩)
    (h4 : ∀ (k : Fin 13568) (j : Fin 256), v4 (ix2 k j) = w k ⟨1152 + j.val, by omega⟩)
    (r : Fin 256) (j : Fin 1408) :
    concatenate S256x1408 1
      [⟨S256x1280, (matmul (φ₁ := .fp8e4m3) (φ₂ := .fp8e4m3) dot_S256x13568_S13568x1280_S256x1280_1_0_0_1_n_n none v0 v2
          (constant S256x1280 .f32 0x00000000#32 : FVec Ideal S256x1280 .f32) : FVec Ideal S256x1280 .f32)⟩,
       ⟨S256x128, (extractStridedSlice S256x128 ![0, 128] (matmul (φ₁ := .fp8e4m3) (φ₂ := .fp8e4m3) dot_S256x13568_S13568x256_S256x256_1_0_0_1_n_n none v0 v4
          (constant S256x256 .f32 0x00000000#32 : FVec Ideal S256x256 .f32)) slices_S256x256_o0_128_S256x128 : FVec Ideal S256x128 .f32)⟩]
      concatenates_S256x1280_S256x128_S256x1408_d1 (ix2 r j)
      = ∑ k : Fin 13568, (v0 (ix2 r k) : EReal) * w k j := by
  by_cases hj : j.val < 1280
  · rw [concatenate_pair_apply_left (t := S256x1408) (s₁ := S256x1280) (s₂ := S256x128) 1 _ _ _ (ix2 r j) rfl (ix2 (n1 := 1280) r ⟨j.val, hj⟩) (fun a => by fin_cases a <;> rfl), matmul_left]
    exact Finset.sum_congr rfl fun k _ => by rw [h2]
  · have hlt := j.isLt
    have hb : ∀ b : Fin S256x128.rank, b.cast rfl ≠ (1 : Fin S256x1408.rank) →
        ((ix2 (n1 := 128) r ⟨j.val - 1280, by omega⟩ : S256x128.Idx) b).val = ((ix2 r j : S256x1408.Idx) (b.cast rfl)).val := by
      intro b hne
      fin_cases b
      · rfl
      · exact absurd rfl hne
    rw [concatenate_pair_apply_right (t := S256x1408) (s₁ := S256x1280) (s₂ := S256x128) 1 _ _ _ (ix2 r j) rfl rfl (ix2 (n1 := 128) r ⟨j.val - 1280, by omega⟩) hb
        (by show j.val - 1280 + 1280 = j.val; omega),
      slice2_axis1_apply 128 _ _ r _ ⟨128 + (j.val - 1280), by omega⟩ rfl, matmul_right]
    refine Finset.sum_congr rfl fun k _ => ?_
    rw [h4]
    congr 2
    exact Fin.ext (by show 1152 + (128 + (j.val - 1280)) = j.val; omega)

/-- The linear layer's block, entry by entry. -/
theorem lin_apply (v0 : Vec Ideal S256x13568 .fp8e4m3) (v2 : Vec Ideal S13568x1280 .fp8e4m3) (v4 : Vec Ideal S13568x256 .fp8e4m3)
    (v8 : Vec Ideal S256x1 .f32) (v12 v16 : Vec Ideal S1x1408 .f32)
    (w : Fin 13568 → Fin 1408 → EReal)
    (h2 : ∀ (k : Fin 13568) (j : Fin 1280), v2 (ix2 k j) = w k ⟨j.val, by omega⟩)
    (h4 : ∀ (k : Fin 13568) (j : Fin 256), v4 (ix2 k j) = w k ⟨1152 + j.val, by omega⟩)
    (r : Fin 256) (j : Fin 1408) :
    k0_pay2 v0 v2 v4 v8 v12 v16 (ix2 r j)
      = lin (fun k => v0 (ix2 r k)) (v8 (ix2 r 0)) w (fun j => v12 (ix2 0 j)) (fun j => v16 (ix2 0 j)) j := by
  unfold k0_pay2
  simp only [shapeCast_self]
  rw [shapeCast_self v0]
  show _ * _ * _ + _ = _
  rw [matmul_apply v0 v2 v4 w h2 h4 r j, col_apply, broadcastTo_1b_ab_apply, broadcastTo_1b_ab_apply]
  rfl

/-! ## The row's greatest magnitude and its exponent -/

/-- The magnitude, as the greater of a value and its negation. -/
theorem abs_eq (x : EReal) : (FloatOps.absf (F := Ideal) (φ := .f32) x : EReal) = max x (-x) := rfl

/-- The row's greatest magnitude, from the linear layer's block. -/
theorem amax_apply (v0 : Vec Ideal S256x13568 .fp8e4m3) (v2 : Vec Ideal S13568x1280 .fp8e4m3) (v4 : Vec Ideal S13568x256 .fp8e4m3)
    (v8 : Vec Ideal S256x1 .f32) (v12 v16 : Vec Ideal S1x1408 .f32) (r : Fin 256) :
    k0_pay3 v0 v2 v4 v8 v12 v16 (ix2 r 0) = amax (fun j => k0_pay2 v0 v2 v4 v8 v12 v16 (ix2 r j)) := by
  unfold k0_pay3
  refine (shapeCast_a_a1_apply _ _ r 0).trans ?_
  refine (Ideal.multiReduction_maximumf_single _ _ _ _ _ (ix1 r)).trans ?_
  refine congrArg (fun f => (Finset.univ : Finset (Fin 1408)).fold max (Ideal.ofBits .f32 0xFF800000#32) f) (funext fun (k : Fin 1408) => ?_)
  have hl : (reduces_S256x1408_S256).lift (ix1 r) k = ix2 r k := funext fun a => by fin_cases a <;> rfl
  show FloatOps.absf (k0_pay2 v0 v2 v4 v8 v12 v16 ((reduces_S256x1408_S256).lift (ix1 r) k)) = _
  rw [hl, abs_eq]

/-- A column times a constant, at an index. -/
theorem mul_const (p : FVec Ideal S256x1 .f32) (c : BitVec 32) (i : S256x1.Idx) :
    mulf p (broadcast S256x1 (Scalar.ofBits .f32 c)) i = p i * Ideal.ofBits .f32 c := rfl

/-- One step of the bisection from a constant, at an index. -/
theorem step_const (v24 : FVec Ideal S256x1 .f32) (b s : BitVec 32) (i : S256x1.Idx) :
    select (cmpf .oge v24 (bitcastToFloat .f32 (shli (addi (broadcast S256x1 b) (broadcast S256x1 s)) (broadcast S256x1 23#32))))
      (addi (broadcast S256x1 b) (broadcast S256x1 s)) (broadcast S256x1 b) i = step (v24 i) b s := rfl

/-- The first step of the bisection, at an index. -/
theorem step1_apply (v0 : Vec Ideal S256x13568 .fp8e4m3) (v2 : Vec Ideal S13568x1280 .fp8e4m3) (v4 : Vec Ideal S13568x256 .fp8e4m3)
    (v8 : Vec Ideal S256x1 .f32) (v12 v16 : Vec Ideal S1x1408 .f32) (i : S256x1.Idx) :
    k0_pay5 v0 v2 v4 v8 v12 v16 i = step (k0_pay4 v0 v2 v4 v8 v12 v16 i) 0#32 128#32 := by
  unfold k0_pay5
  exact step_const _ 0#32 128#32 i

/-- The next five steps of the bisection, at an index. -/
theorem step6_apply (v24 : FVec Ideal S256x1 .f32) (v34 : IVec S256x1 32) (i : S256x1.Idx) :
    k0_pay7 v24 v34 (addi v34 (broadcast S256x1 64#32)) 23#32 i
      = step (v24 i) (step (v24 i) (step (v24 i) (step (v24 i) (step (v24 i) (v34 i) 64#32) 32#32) 16#32) 8#32) 4#32 := rfl

/-- The last two steps and the exponent, at an index. -/
theorem exp9_apply (v22 v24 : FVec Ideal S256x1 .f32) (v79 : IVec S256x1 32) (i : S256x1.Idx) :
    k0_pay9 v22 v24 v79 (addi v79 (broadcast S256x1 2#32)) 23#32 i
      = Scalar.select (Ideal.cmp .oeq (v22 i) (Ideal.ofBits .f32 0x00000000#32)) 0#32
          (Scalar.select (IntOp.ori (IntOp.cmpi .eq (step (v24 i) (step (v24 i) (v79 i) 2#32) 1#32) 0#32)
              (IntOp.cmpi .eq (step (v24 i) (step (v24 i) (v79 i) 2#32) 1#32) 255#32)) 0#32
            (IntOp.subi (step (v24 i) (step (v24 i) (v79 i) 2#32) 1#32) 126#32)) := rfl

/-- The kernel's exponent at a row, from the linear layer's block. -/
theorem exp_apply (v0 : Vec Ideal S256x13568 .fp8e4m3) (v2 : Vec Ideal S13568x1280 .fp8e4m3) (v4 : Vec Ideal S13568x256 .fp8e4m3)
    (v8 : Vec Ideal S256x1 .f32) (v12 v16 : Vec Ideal S1x1408 .f32) (r : Fin 256) :
    k0_pay9 (k0_pay3 v0 v2 v4 v8 v12 v16) (k0_pay4 v0 v2 v4 v8 v12 v16)
      (k0_pay7 (k0_pay4 v0 v2 v4 v8 v12 v16) (k0_pay5 v0 v2 v4 v8 v12 v16) (k0_pay6 v0 v2 v4 v8 v12 v16) 23#32)
      (k0_pay8 (k0_pay4 v0 v2 v4 v8 v12 v16) (k0_pay5 v0 v2 v4 v8 v12 v16) (k0_pay6 v0 v2 v4 v8 v12 v16) 23#32) 23#32 (ix2 r 0)
      = exponent (fun j => k0_pay2 v0 v2 v4 v8 v12 v16 (ix2 r j)) := by
  unfold k0_pay8 k0_pay6
  rw [exp9_apply, step6_apply, step1_apply]
  have h4 : k0_pay4 v0 v2 v4 v8 v12 v16 (ix2 r 0) = scaled (fun j => k0_pay2 v0 v2 v4 v8 v12 v16 (ix2 r j)) := by
    unfold k0_pay4 scaled
    rw [← amax_apply]
    exact mul_const _ _ _
  rw [h4, amax_apply]
  exact expK_eq_expR _ _

/-! ## The two blocks written back -/

/-- The offset `[0, 0]` of a whole access. -/
theorem hz : (![0, 0] : Fin 2 → Nat) = fun _ => 0 := funext fun a => by fin_cases a <;> rfl

/-- The first load of `w` reads its columns from 0 on. -/
theorem ld_left (x2 : Vec Ideal S13568x1408 .fp8e4m3) (k : Fin 13568) (j : Fin 1280) :
    View.ld x2 r0_1 (ix2 k j) = x2 (ix2 k ⟨j.val, by omega⟩) :=
  View.ld_unit_apply_of x2 _ _ _ _ _ (fun a => by fin_cases a <;> simp)

/-- The second load of `w` reads its columns from 1152 on. -/
theorem ld_right (x2 : Vec Ideal S13568x1408 .fp8e4m3) (k : Fin 13568) (j : Fin 256) :
    View.ld x2 r0_2 (ix2 k j) = x2 (ix2 k ⟨1152 + j.val, by omega⟩) :=
  View.ld_unit_apply_of x2 _ _ _ _ _ (fun a => by fin_cases a <;> simp)

/-- The linear layer's block as the grid point computes it. -/
theorem lin_block (x0 : Vec Ideal S256x13568 .fp8e4m3) (x1 : Vec Ideal S256x1 .f32) (x2 : Vec Ideal S13568x1408 .fp8e4m3)
    (x3 x4 : Vec Ideal S1x1408 .f32) (r : Fin 256) (j : Fin 1408) :
    k0_pay2 x0 (View.ld x2 r0_1) (View.ld x2 r0_2) x1 x3 x4 (ix2 r j) = rowOf x0 x1 x2 x3 x4 r j :=
  lin_apply x0 _ _ x1 x3 x4 (fun k j => x2 (ix2 k j)) (ld_left x2) (ld_right x2) r j

/-- The scale's block: the row's power of two. -/
theorem out5_apply (x0 : Vec Ideal S256x13568 .fp8e4m3) (x1 : Vec Ideal S256x1 .f32) (x2 : Vec Ideal S13568x1408 .fp8e4m3)
    (x3 x4 : Vec Ideal S1x1408 .f32) (r : Fin 256) :
    out0_5 x0 x1 x2 x3 x4 (ix2 r 0) = scale (rowOf x0 x1 x2 x3 x4 r) := by
  unfold out0_5
  rw [View.canon_unit_zero hz]
  unfold k0_pay12 k0_pay13 k0_pay16 k0_pay17 k0_pay14 k0_pay15 k0_pay13
  rw [View.ld_unit_zero (S := S256x13568) hz, View.ld_unit_zero (S := S256x1) hz, View.ld_unit_zero (S := S1x1408) hz,
    View.ld_unit_zero (S := S1x1408) hz]
  refine (show _ = scaleK (k0_pay9 _ _ _ _ _ (ix2 r 0)) from rfl).trans ?_
  rw [exp_apply]
  simp only [lin_block]
  exact scaleK_expR _ _

/-- The codes' block: the row divided by its power of two and clipped. -/
theorem out6_apply (x0 : Vec Ideal S256x13568 .fp8e4m3) (x1 : Vec Ideal S256x1 .f32) (x2 : Vec Ideal S13568x1408 .fp8e4m3)
    (x3 x4 : Vec Ideal S1x1408 .f32) (r : Fin 256) (j : Fin 1408) :
    out0_6 x0 x1 x2 x3 x4 (ix2 r j) = code (rowOf x0 x1 x2 x3 x4 r) j := by
  unfold out0_6
  rw [View.canon_unit_zero hz]
  unfold k0_pay12 k0_pay13 k0_pay16 k0_pay17 k0_pay14 k0_pay15 k0_pay13
  rw [View.ld_unit_zero (S := S256x13568) hz, View.ld_unit_zero (S := S256x1) hz, View.ld_unit_zero (S := S1x1408) hz,
    View.ld_unit_zero (S := S1x1408) hz]
  unfold k0_pay1
  show min (Ideal.ofBits .f32 0x43E00000#32) (max (Ideal.ofBits .f32 0xC3E00000#32) ((_ : EReal) * (_ : EReal))) = _
  rw [col_apply, lin_block]
  refine congrArg (fun s => min (Ideal.ofBits .f32 0x43E00000#32) (max (Ideal.ofBits .f32 0xC3E00000#32) (rowOf x0 x1 x2 x3 x4 r j * s))) ?_
  refine (show _ = scaleK (IntOp.subi 0#32 (k0_pay9 _ _ _ _ _ (ix2 r 0))) from rfl).trans ?_
  rw [exp_apply]
  simp only [lin_block]
  exact scaleK_neg_expR _ _

end Cert.Proof.Block

end
-- ==== Proof.KernelArrays.lean ====
/-
  What the kernel's two RESULT ARRAYS hold after the run, at the extended reals (hand-written, untrusted). Grid point `t` reads rows
  256 t .. 256 t + 255 of `x` and of its scales and the whole of `w`, its scales and the bias (`iblk0_apply` .. `iblk4_apply`), and writes
  the same rows of the two results; so row `R` of a result is what point `R / 256` writes at `R % 256` (`final5`, `final6`).
-/
module

public import proofs.«01_k».proof.Proof.Block
public import proofs.«01_k».proof.Proof.Gen.KernelIdeal.Value

@[expose] public section

noncomputable section

namespace Cert.Proof.KernelArrays

open Idealize.ShloMosaic Idealize.ShloMosaic.TcCoe Idealize.SL.Sem Idealize.ShloMosaic.ValueIdx
open Cert.Proof.Row
open Cert.KernelIdeal Cert.KernelIdeal.Gen

local instance : Cert.KernelIdeal.Facts := Cert.KernelIdeal.Gen.facts

variable (m : (ℓ : Loc nD τ sig) → Buf (Elt Ideal) ℓ) (ρ : Dev nD → PrngReg)

/-! ## Where the blocks lie -/

/-- The block indices of the row windows at point `t` are `(t, 0)`. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The block indices of the whole windows are `(0, 0)`. -/
theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row `r` of point `t`'s block, as a row of the array. -/
def rowAt (t : Fin cfg0.N) (r : Fin 256) : Fin 9216 :=
  ⟨t.val * 256 + r.val, by have h : t.val < 36 := t.isLt; have := r.isLt; omega⟩

theorem emb0 (t : Fin cfg0.N) (r : Fin 256) (k : Fin 13568) :
    ((cfg0.win 0).blk t).view.emb (ix2 r k) = (ix2 (rowAt t r) k : S9216x13568.Idx) := by
  obtain ⟨e0, e1, _⟩ := idx_rows t
  funext a; apply Fin.ext
  match a with
  | ⟨0, _⟩ => show win0_0.index t (0 : Fin 2) * 256 + 1 * r.val = t.val * 256 + r.val; omega
  | ⟨1, _⟩ => show win0_0.index t (1 : Fin 2) * 13568 + 1 * k.val = k.val; omega

theorem emb1 (t : Fin cfg0.N) (r : Fin 256) (u : Fin 1) :
    ((cfg0.win 1).blk t).view.emb (ix2 r u) = (ix2 (rowAt t r) u : S9216x1.Idx) := by
  obtain ⟨_, _, e0, e1, _⟩ := idx_rows t
  funext a; apply Fin.ext
  match a with
  | ⟨0, _⟩ => show win0_1.index t (0 : Fin 2) * 256 + 1 * r.val = t.val * 256 + r.val; omega
  | ⟨1, _⟩ => show win0_1.index t (1 : Fin 2) * 1 + 1 * u.val = u.val; omega

theorem emb2 (t : Fin cfg0.N) (z : S13568x1408.Idx) : ((cfg0.win 2).blk t).view.emb z = z := by
  obtain ⟨e0, e1, _⟩ := idx_whole t
  funext a; apply Fin.ext
  match a with
  | ⟨0, _⟩ => show win0_2.index t (0 : Fin 2) * 13568 + 1 * (z 0).val = (z 0).val; omega
  | ⟨1, _⟩ => show win0_2.index t (1 : Fin 2) * 1408 + 1 * (z 1).val = (z 1).val; omega

theorem emb3 (t : Fin cfg0.N) (z : S1x1408.Idx) : ((cfg0.win 3).blk t).view.emb z = z := by
  obtain ⟨_, _, e0, e1, _⟩ := idx_whole t
  funext a; apply Fin.ext
  match a with
  | ⟨0, _⟩ => show win0_3.index t (0 : Fin 2) * 1 + 1 * (z 0).val = (z 0).val; omega
  | ⟨1, _⟩ => show win0_3.index t (1 : Fin 2) * 1408 + 1 * (z 1).val = (z 1).val; omega

theorem emb4 (t : Fin cfg0.N) (z : S1x1408.Idx) : ((cfg0.win 4).blk t).view.emb z = z := by
  obtain ⟨_, _, _, _, e0, e1⟩ := idx_whole t
  funext a; apply Fin.ext
  match a with
  | ⟨0, _⟩ => show win0_4.index t (0 : Fin 2) * 1 + 1 * (z 0).val = (z 0).val; omega
  | ⟨1, _⟩ => show win0_4.index t (1 : Fin 2) * 1408 + 1 * (z 1).val = (z 1).val; omega

theorem emb5 (t : Fin cfg0.N) (r : Fin 256) (u : Fin 1) :
    ((cfg0.win 5).blk t).view.emb (ix2 r u) = (ix2 (rowAt t r) u : S9216x1.Idx) := by
  obtain ⟨_, _, _, _, e0, e1, _⟩ := idx_rows t
  funext a; apply Fin.ext
  match a with
  | ⟨0, _⟩ => show win0_5.index t (0 : Fin 2) * 256 + 1 * r.val = t.val * 256 + r.val; omega
  | ⟨1, _⟩ => show win0_5.index t (1 : Fin 2) * 1 + 1 * u.val = u.val; omega

theorem emb6 (t : Fin cfg0.N) (r : Fin 256) (j : Fin 1408) :
    ((cfg0.win 6).blk t).view.emb (ix2 r j) = (ix2 (rowAt t r) j : S9216x1408.Idx) := by
  obtain ⟨_, _, _, _, _, _, e0, e1⟩ := idx_rows t
  funext a; apply Fin.ext
  match a with
  | ⟨0, _⟩ => show win0_6.index t (0 : Fin 2) * 256 + 1 * r.val = t.val * 256 + r.val; omega
  | ⟨1, _⟩ => show win0_6.index t (1 : Fin 2) * 1408 + 1 * j.val = j.val; omega

/-! ## What the region finds in its input arrays: the arguments, reshaped by the host -/

theorem V_main_v0 (c : Dev nD) :
    V m c main_v0 = shapeCast S9216x13568 (m ((c : Thread nD τ).loc main_arg0)) shapeCasts_S3x3072x13568_S9216x13568 := by
  show StableHlo.after hostOps0 _ (Proc.devRef .tc main_v0) = _
  after_results
  rfl

theorem V_main_v1 (c : Dev nD) :
    V m c main_v1 = shapeCast S9216x1 (m ((c : Thread nD τ).loc main_arg1)) shapeCasts_S3x3072x1_S9216x1 := by
  show StableHlo.after hostOps0 _ (Proc.devRef .tc main_v1) = _
  after_results
  rfl

theorem V_main_v2 (c : Dev nD) :
    V m c main_v2 = shapeCast S1x1408 (m ((c : Thread nD τ).loc main_arg3)) shapeCasts_S1408_S1x1408 := by
  show StableHlo.after hostOps0 _ (Proc.devRef .tc main_v2) = _
  after_results
  rfl

theorem V_main_v3 (c : Dev nD) :
    V m c main_v3 = shapeCast S1x1408 (m ((c : Thread nD τ).loc main_arg4)) shapeCasts_S1408_S1x1408 := by
  show StableHlo.after hostOps0 _ (Proc.devRef .tc main_v3) = _
  after_results
  rfl

/-! ## The blocks read -/

/-- A row of the linear layer of the blocks that point `t` reads is that row of the arrays. -/
theorem row_iblk (c : Dev nD) (t : Fin cfg0.N) (r : Fin 256) :
    rowOf (M := 256) (iblk m c 0 t) (iblk m c 1 t) (iblk m c 2 t) (iblk m c 3 t) (iblk m c 4 t) r
      = rowOf (M := 9216) (V m c main_v0) (V m c main_v1) (V m c main_arg2) (V m c main_v2) (V m c main_v3) (rowAt t r) := by
  have h0 : ∀ k : Fin 13568, iblk m c 0 t (ix2 r k : S256x13568.Idx) = V m c main_v0 (ix2 (rowAt t r) k) := fun k => by
    show V m c main_v0 (((cfg0.win 0).blk t).view.emb (ix2 r k)) = _
    rw [emb0]
  have h1 : iblk m c 1 t (ix2 r 0 : S256x1.Idx) = V m c main_v1 (ix2 (rowAt t r) 0) := by
    show V m c main_v1 (((cfg0.win 1).blk t).view.emb (ix2 r 0)) = _
    rw [emb1]
  have h2 : ∀ z : S13568x1408.Idx, iblk m c 2 t z = V m c main_arg2 z := fun z => by
    show V m c main_arg2 (((cfg0.win 2).blk t).view.emb z) = _
    rw [emb2]
  have h3 : ∀ z : S1x1408.Idx, iblk m c 3 t z = V m c main_v2 z := fun z => by
    show V m c main_v2 (((cfg0.win 3).blk t).view.emb z) = _
    rw [emb3]
  have h4 : ∀ z : S1x1408.Idx, iblk m c 4 t z = V m c main_v3 z := fun z => by
    show V m c main_v3 (((cfg0.win 4).blk t).view.emb z) = _
    rw [emb4]
  unfold rowOf
  rw [funext h0, h1]
  rw [show (fun (k : Fin 13568) (j : Fin 1408) => iblk m c 2 t (ix2 k j : S13568x1408.Idx)) = fun k j => V m c main_arg2 (ix2 k j) from
      funext fun k => funext fun j => h2 _,
    show (fun j : Fin 1408 => iblk m c 3 t (ix2 0 j : S1x1408.Idx)) = fun j => V m c main_v2 (ix2 0 j) from funext fun j => h3 _,
    show (fun j : Fin 1408 => iblk m c 4 t (ix2 0 j : S1x1408.Idx)) = fun j => V m c main_v3 (ix2 0 j) from funext fun j => h4 _]

/-! ## The result arrays -/

/-- The point that writes row `R`, and where in its block. -/
theorem row_split (R : Fin 9216) : ∃ (t : Fin cfg0.N) (r : Fin 256), rowAt t r = R :=
  ⟨⟨R.val / 256, by show R.val / 256 < 36; have := R.isLt; omega⟩, ⟨R.val % 256, by omega⟩,
    Fin.ext (by show R.val / 256 * 256 + R.val % 256 = R.val; omega)⟩

/-- The first result array after the run: every row's scale. -/
theorem final5 (c : Dev nD) :
    (dats m 0 c).arrAt 5 cfg0.N
      = scales (M := 9216) (V m c main_v0) (V m c main_v1) (V m c main_arg2) (V m c main_v2) (V m c main_v3) := by
  refine funext fun (i : S9216x1.Idx) => ?_
  obtain ⟨t, r, hr⟩ := row_split (i 0)
  have hi : i = ((cfg0.win 5).blk t).view.emb (ix2 r 0 : S256x1.Idx) := by
    rw [emb5, hr]
    exact (eq_ix2 i).trans (congrArg (ix2 (i 0)) (Subsingleton.elim (α := Fin 1) _ _))
  have b : (dats m 0 c).arrAt 5 cfg0.N (((cfg0.win 5).blk t).view.emb (ix2 r 0 : S256x1.Idx)) = _ :=
    congrFun (Cert.KernelIdeal.Value.blocks5 m c t (flush0_5 t)) (ix2 r 0 : S256x1.Idx)
  rw [Cert.KernelIdeal.Value.flushed5] at b
  rw [hi, b]
  refine (show _ = out0_5 (iblk m c 0 t) (iblk m c 1 t) (iblk m c 2 t) (iblk m c 3 t) (iblk m c 4 t) (ix2 r 0) from rfl).trans ?_
  rw [Block.out5_apply, row_iblk, emb5]
  rfl

/-- The second result array after the run: every row's codes. -/
theorem final6 (c : Dev nD) :
    (dats m 0 c).arrAt 6 cfg0.N
      = codes (M := 9216) (V m c main_v0) (V m c main_v1) (V m c main_arg2) (V m c main_v2) (V m c main_v3) := by
  refine funext fun (i : S9216x1408.Idx) => ?_
  obtain ⟨t, r, hr⟩ := row_split (i 0)
  obtain ⟨j, hj⟩ : ∃ j : Fin 1408, j = i 1 := ⟨i 1, rfl⟩
  have hi : i = ((cfg0.win 6).blk t).view.emb (ix2 r j : S256x1408.Idx) := by
    rw [emb6, hr, hj]
    exact eq_ix2 i
  have b : (dats m 0 c).arrAt 6 cfg0.N (((cfg0.win 6).blk t).view.emb (ix2 r j : S256x1408.Idx)) = _ :=
    congrFun (Cert.KernelIdeal.Value.blocks6 m c t (flush0_6 t)) (ix2 r j : S256x1408.Idx)
  rw [Cert.KernelIdeal.Value.flushed6] at b
  rw [hi, b]
  refine (show _ = out0_6 (iblk m c 0 t) (iblk m c 1 t) (iblk m c 2 t) (iblk m c 3 t) (iblk m c 4 t) (ix2 r j) from rfl).trans ?_
  rw [Block.out6_apply, row_iblk, emb6]
  rfl

/-! ## The run -/

/-- The scales of the arguments. -/
def scalesOf (c : Dev nD) : Buf (Elt Ideal) ((c : Thread nD τ).loc main_v4_0) :=
  scales (M := 9216)
    (shapeCast S9216x13568 (m ((c : Thread nD τ).loc main_arg0)) shapeCasts_S3x3072x13568_S9216x13568)
    (shapeCast S9216x1 (m ((c : Thread nD τ).loc main_arg1)) shapeCasts_S3x3072x1_S9216x1)
    (m ((c : Thread nD τ).loc main_arg2))
    (shapeCast S1x1408 (m ((c : Thread nD τ).loc main_arg3)) shapeCasts_S1408_S1x1408)
    (shapeCast S1x1408 (m ((c : Thread nD τ).loc main_arg4)) shapeCasts_S1408_S1x1408)

/-- The codes of the arguments. -/
def codesOf (c : Dev nD) : Buf (Elt Ideal) ((c : Thread nD τ).loc main_v4_1) :=
  codes (M := 9216)
    (shapeCast S9216x13568 (m ((c : Thread nD τ).loc main_arg0)) shapeCasts_S3x3072x13568_S9216x13568)
    (shapeCast S9216x1 (m ((c : Thread nD τ).loc main_arg1)) shapeCasts_S3x3072x1_S9216x1)
    (m ((c : Thread nD τ).loc main_arg2))
    (shapeCast S1x1408 (m ((c : Thread nD τ).loc main_arg3)) shapeCasts_S1408_S1x1408)
    (shapeCast S1x1408 (m ((c : Thread nD τ).loc main_arg4)) shapeCasts_S1408_S1x1408)

theorem final5' (c : Dev nD) : (dats m 0 c).arrAt 5 cfg0.N = scalesOf m c := by
  rw [final5, V_main_v0, V_main_v1, V_main_arg2, V_main_v2, V_main_v3]; rfl

theorem final6' (c : Dev nD) : (dats m 0 c).arrAt 6 cfg0.N = codesOf m c := by
  rw [final6, V_main_v0, V_main_v1, V_main_arg2, V_main_v2, V_main_v3]; rfl

/-- The kernel's run: the scales and the codes of the arguments, the arguments unchanged. -/
theorem run : θ_run (defs (F := Ideal)) (onTc (τ := τ) (main (F := Ideal))) ⟨m, fun _ => 0, ρ⟩ fun r => ∀ c : Dev nD,
      r.2.mem ((c : Thread nD τ).loc main_v4_0) = scalesOf m c
      ∧ r.2.mem ((c : Thread nD τ).loc main_v4_1) = codesOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5' m c), (h c).2.1.trans (final6' m c), (h c).2.2⟩)
    (Cert.KernelIdeal.Value.run_blocks (F := Ideal) m ρ)

end Cert.Proof.KernelArrays

end
-- ==== Proof.RefBlock.lean ====
/-
  What the REFERENCE computes (hand-written, untrusted): its two results, entry by entry, as the row functions of `Row.lean` of its five
  arrays. `lin_apply` is the linear layer, `amax_apply` the row's greatest magnitude, `count_apply` the number of powers of two that the
  scaled magnitude reaches, `exp_apply` the exponent; `out5_apply` is the scale's array and `out6_apply` the codes'.
-/
module

public import proofs.«01_k».proof.Proof.Row
public import proofs.«01_k».proof.Proof.Gen.ReferenceIdeal.Frame
public import Idealize.ShloMosaic.Lib.MatmulPlain
public import Idealize.ShloMosaic.Lib.Pipeline.Value
public import Idealize.ShloMosaic.Lib.ValueLayout
public import Idealize.ShloMosaic.Lib.ValueLayoutCasts

@[expose] public section

set_option maxRecDepth 16384

noncomputable section

namespace Cert.Proof.RefBlock

open Idealize.ShloMosaic Idealize.ShloMosaic.ValueIdx Cert.Proof.Exponent Cert.Proof.Row
open Cert.ReferenceIdeal Cert.ReferenceIdeal.Gen

local instance : Cert.ReferenceIdeal.Facts := Cert.ReferenceIdeal.Gen.facts

/-! ## The linear layer -/

/-- A column `[9216, 1]` broadcast to `[9216, 1408]` reads its row. -/
theorem col_apply (v : S9216x1.Idx → EReal) (h : S9216x1.Broadcasts S9216x1408) (r : Fin 9216) (j : Fin 1408) :
    broadcastTo S9216x1408 v h (ix2 r j) = v (ix2 r 0) :=
  broadcastTo_apply v h (ix2 r j) (ix2 r 0) (fun a => by fin_cases a <;> rfl)

/-- A column `[9216, 1]` broadcast to `[9216, 254]` reads its row. -/
theorem col254_apply (v : S9216x1.Idx → EReal) (h : S9216x1.Broadcasts S9216x254) (r : Fin 9216) (j : Fin 254) :
    broadcastTo S9216x254 v h (ix2 r j) = v (ix2 r 0) :=
  broadcastTo_apply v h (ix2 r j) (ix2 r 0) (fun a => by fin_cases a <;> rfl)

/-- The matrix product. -/
theorem matmul_apply (v0 : Vec Ideal S9216x13568 .fp8e4m3) (v2 : Vec Ideal S13568x1408 .fp8e4m3) (r : Fin 9216) (j : Fin 1408) :
    matmul (φ₁ := .fp8e4m3) (φ₂ := .fp8e4m3) dot_S9216x13568_S13568x1408_S9216x1408_1_0_0_1_n_n none v0 v2
      (constant S9216x1408 .f32 0x00000000#32 : FVec Ideal S9216x1408 .f32) (ix2 r j)
      = ∑ k : Fin 13568, (v0 (ix2 r k) : EReal) * v2 (ix2 k j) := by
  refine (Ideal.matmul_plain_apply (M := 9216) (K := 13568) (N := 1408) none v0 v2 _ r j).trans ?_
  show Ideal.ofBits .f32 0x00000000#32 + _ = _
  rw [ofBits_zero, zero_add]

/-- The linear layer's array, entry by entry. -/
theorem lin_apply (v0 : Vec Ideal S9216x13568 .fp8e4m3) (v2 : Vec Ideal S13568x1408 .fp8e4m3)
    (v4 : Vec Ideal S9216x1 .f32) (v8 v12 : Vec Ideal S1x1408 .f32) (r : Fin 9216) (j : Fin 1408) :
    k0_pay2 v0 v2 v4 v8 v12 (ix2 r j) = rowOf v0 v4 v2 v8 v12 r j := by
  unfold k0_pay2
  simp only [shapeCast_self]
  show _ * _ * _ + _ = _
  rw [matmul_apply v0 v2 r j, col_apply, broadcastTo_1b_ab_apply, broadcastTo_1b_ab_apply]
  rfl

/-! ## The row's greatest magnitude and its exponent -/

/-- The magnitude, as the greater of a value and its negation. -/
theorem abs_eq (x : EReal) : (FloatOps.absf (F := Ideal) (φ := .f32) x : EReal) = max x (-x) := rfl

/-- The row's greatest magnitude. -/
theorem amax_apply (v0 : Vec Ideal S9216x13568 .fp8e4m3) (v2 : Vec Ideal S13568x1408 .fp8e4m3)
    (v4 : Vec Ideal S9216x1 .f32) (v8 v12 : Vec Ideal S1x1408 .f32) (r : Fin 9216) :
    k0_pay3 v0 v2 v4 v8 v12 (ix2 r 0) = amax (rowOf v0 v4 v2 v8 v12 r) := by
  unfold k0_pay3
  refine (shapeCast_a_a1_apply _ _ r 0).trans ?_
  refine (Ideal.multiReduction_maximumf_single _ _ _ _ _ (ix1 r)).trans ?_
  refine congrArg (fun f => (Finset.univ : Finset (Fin 1408)).fold max (Ideal.ofBits .f32 0xFF800000#32) f) (funext fun (k : Fin 1408) => ?_)
  have hl : (reduces_S9216x1408_S9216).lift (ix1 r) k = ix2 r k := funext fun a => by fin_cases a <;> rfl
  show FloatOps.absf (k0_pay2 v0 v2 v4 v8 v12 ((reduces_S9216x1408_S9216).lift (ix1 r) k)) = _
  rw [hl, abs_eq, lin_apply]

/-- A column times a constant, at an index. -/
theorem mul_const (p : FVec Ideal S9216x1 .f32) (c : BitVec 32) (i : S9216x1.Idx) :
    mulf p (broadcast S9216x1 (Scalar.ofBits .f32 c)) i = p i * Ideal.ofBits .f32 c := rfl

/-- The scaled magnitude. -/
theorem scaled_apply (v0 : Vec Ideal S9216x13568 .fp8e4m3) (v2 : Vec Ideal S13568x1408 .fp8e4m3)
    (v4 : Vec Ideal S9216x1 .f32) (v8 v12 : Vec Ideal S1x1408 .f32) (r : Fin 9216) :
    k0_pay4 v0 v2 v4 v8 v12 (ix2 r 0) = scaled (rowOf v0 v4 v2 v8 v12 r) := by
  unfold k0_pay4 scaled
  rw [← amax_apply]
  exact mul_const _ _ _

/-- The number of powers of two that the scaled magnitude reaches. -/
theorem count_apply (v0 : Vec Ideal S9216x13568 .fp8e4m3) (v2 : Vec Ideal S13568x1408 .fp8e4m3)
    (v4 : Vec Ideal S9216x1 .f32) (v8 v12 : Vec Ideal S1x1408 .f32) (r : Fin 9216) :
    k0_pay5 v0 v2 v4 v8 v12 (ix2 r 0) = count (scaled (rowOf v0 v4 v2 v8 v12 r)) := by
  rw [← scaled_apply]
  unfold k0_pay5
  generalize k0_pay4 v0 v2 v4 v8 v12 = m
  refine (shapeCast_a_a1_apply _ _ r 0).trans ?_
  refine (multiReductionI_eq_fold _ _ _ _ _ (ix1 r)).trans ?_
  refine ((reduces_S9216x254_S9216).fold_filter_drop_single _ _ _ (ix1 r)).trans ?_
  refine congrArg (fun f => (Finset.univ : Finset (Fin 254)).fold IntOp.addi 0#32 f) (funext fun (k : Fin 254) => ?_)
  have hl : (reduces_S9216x254_S9216).lift (ix1 r) k = ix2 r k := funext fun a => by fin_cases a <;> rfl
  refine (congrArg (extui 32 _ _) hl).trans ?_
  show BitVec.setWidth 32 (Ideal.cmp .ole (broadcastTo S9216x254 _ _ (ix2 r k)) (broadcastTo S9216x254 m _ (ix2 r k))) = _
  rw [col254_apply, broadcastTo_1b_ab_apply]
  refine congrArg (fun s => BitVec.setWidth 32 (Ideal.cmp .ole s (m (ix2 r 0)))) ?_
  refine (show _ = scaleR (IntOp.subi (iota .tc S1x254 32 [1] iota_S1x254_d1_w32 (ix2 0 k)) 126#32) from rfl).trans ?_
  rw [iota_single_apply]

/-- The exponent at an index. -/
theorem exp6_apply (v18 v20 : FVec Ideal S9216x1 .f32) (v39 : IVec S9216x1 32) (i : S9216x1.Idx) :
    k0_pay6 v18 v20 v39 126#32 i
      = Scalar.select (Ideal.cmp .oeq (v18 i) (Ideal.ofBits .f32 0x00000000#32)) 0#32
          (Scalar.select (IntOp.andi (Ideal.cmp .oge (v20 i) (Ideal.ofBits .f32 0x00800000#32))
              (Ideal.cmp .olt (v20 i) (Ideal.ofBits .f32 0x7F800000#32)))
            (IntOp.subi (v39 i) 126#32) 0#32) := rfl

/-- The reference's exponent at a row. -/
theorem exp_apply (v0 : Vec Ideal S9216x13568 .fp8e4m3) (v2 : Vec Ideal S13568x1408 .fp8e4m3)
    (v4 : Vec Ideal S9216x1 .f32) (v8 v12 : Vec Ideal S1x1408 .f32) (r : Fin 9216) :
    k0_pay6 (k0_pay3 v0 v2 v4 v8 v12) (k0_pay4 v0 v2 v4 v8 v12) (k0_pay5 v0 v2 v4 v8 v12) 126#32 (ix2 r 0)
      = exponent (rowOf v0 v4 v2 v8 v12 r) := by
  rw [exp6_apply, amax_apply, scaled_apply, count_apply]
  unfold Row.exponent expR
  rfl

/-- The power of two at an index, from the exponents. -/
theorem scale7_apply (v18 v20 : FVec Ideal S9216x1 .f32) (v39 : IVec S9216x1 32) (i : S9216x1.Idx) :
    k0_pay7 v18 v20 v39 126#32 i = scaleR (k0_pay6 v18 v20 v39 126#32 i) := by
  unfold k0_pay7
  generalize k0_pay6 v18 v20 v39 126#32 = e
  rfl

/-! ## The two results -/

/-- The offset `[0, 0]` of a whole access. -/
theorem hz : (![0, 0] : Fin 2 → Nat) = fun _ => 0 := funext fun a => by fin_cases a <;> rfl

/-- The first result: every row's power of two. -/
theorem out5_apply (x0 : Vec Ideal S9216x13568 .fp8e4m3) (x1 : Vec Ideal S9216x1 .f32) (x2 : Vec Ideal S13568x1408 .fp8e4m3)
    (x3 x4 : Vec Ideal S1x1408 .f32) (r : Fin 9216) :
    out0_5 x0 x1 x2 x3 x4 (ix2 r 0) = scale (rowOf x0 x1 x2 x3 x4 r) := by
  unfold out0_5
  rw [View.canon_unit_zero hz]
  unfold k0_pay10 k0_pay11 k0_pay12
  rw [View.ld_unit_zero (S := S9216x13568) hz, View.ld_unit_zero (S := S9216x1) hz, View.ld_unit_zero (S := S13568x1408) hz,
    View.ld_unit_zero (S := S1x1408) hz, View.ld_unit_zero (S := S1x1408) hz]
  rw [scale7_apply, exp_apply, scale]

/-- The second result: every row divided by its power of two and clipped. -/
theorem out6_apply (x0 : Vec Ideal S9216x13568 .fp8e4m3) (x1 : Vec Ideal S9216x1 .f32) (x2 : Vec Ideal S13568x1408 .fp8e4m3)
    (x3 x4 : Vec Ideal S1x1408 .f32) (r : Fin 9216) (j : Fin 1408) :
    out0_6 x0 x1 x2 x3 x4 (ix2 r j) = code (rowOf x0 x1 x2 x3 x4 r) j := by
  unfold out0_6
  rw [View.canon_unit_zero hz]
  unfold k0_pay10 k0_pay11 k0_pay12
  rw [View.ld_unit_zero (S := S9216x13568) hz, View.ld_unit_zero (S := S9216x1) hz, View.ld_unit_zero (S := S13568x1408) hz,
    View.ld_unit_zero (S := S1x1408) hz, View.ld_unit_zero (S := S1x1408) hz]
  unfold k0_pay1 k0_pay8 k0_pay9
  have he := exp_apply x0 x2 x1 x3 x4 r
  generalize k0_pay6 (k0_pay3 x0 x2 x1 x3 x4) (k0_pay4 x0 x2 x1 x3 x4) (k0_pay5 x0 x2 x1 x3 x4) 126#32 = e at he ⊢
  show min (Ideal.ofBits .f32 0x43E00000#32) (max (Ideal.ofBits .f32 0xC3E00000#32) ((_ : EReal) * (_ : EReal))) = _
  rw [col_apply, lin_apply]
  refine congrArg (fun s => min (Ideal.ofBits .f32 0x43E00000#32)
    (max (Ideal.ofBits .f32 0xC3E00000#32) (rowOf x0 x1 x2 x3 x4 r j * s))) ?_
  refine (show _ = scaleR (IntOp.subi 0#32 (e (ix2 r 0))) from rfl).trans ?_
  rw [he]

end Cert.Proof.RefBlock

end
-- ==== Proof.RefArrays.lean ====
/-
  What the REFERENCE's two result arrays hold after the run (hand-written, untrusted). Its one grid point reads and writes whole arrays
  (`emb0` .. `emb6`), so the results are the two functions of `RefBlock.lean` of the arguments reshaped by the host (`final5`, `final6`).
-/
module

public import proofs.«01_k».proof.Proof.RefBlock
public import proofs.«01_k».proof.Proof.Gen.ReferenceIdeal.Value

@[expose] public section

set_option maxRecDepth 16384

noncomputable section

namespace Cert.Proof.RefArrays

open Idealize.ShloMosaic Idealize.ShloMosaic.TcCoe Idealize.SL.Sem Idealize.ShloMosaic.ValueIdx
open Cert.Proof.Row
open Cert.ReferenceIdeal Cert.ReferenceIdeal.Gen

local instance : Cert.ReferenceIdeal.Facts := Cert.ReferenceIdeal.Gen.facts

variable (m : (ℓ : Loc nD τ sig) → Buf (Elt Ideal) ℓ) (ρ : Dev nD → PrngReg)

/-! ## Where the blocks lie -/

/-- The one grid point. -/
abbrev t0 : Fin cfg0.N := ⟨0, by decide⟩

/-- Every window's block index is `(0, 0)`. -/
theorem idx_whole : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem emb0 (z : S9216x13568.Idx) : ((cfg0.win 0).blk t0).view.emb z = z := by
  obtain ⟨e0, e1, _⟩ := idx_whole t0
  funext a; apply Fin.ext
  match a with
  | ⟨0, _⟩ => show win0_0.index t0 (0 : Fin 2) * 9216 + 1 * (z 0).val = (z 0).val; omega
  | ⟨1, _⟩ => show win0_0.index t0 (1 : Fin 2) * 13568 + 1 * (z 1).val = (z 1).val; omega

theorem emb1 (z : S9216x1.Idx) : ((cfg0.win 1).blk t0).view.emb z = z := by
  obtain ⟨_, _, e0, e1, _⟩ := idx_whole t0
  funext a; apply Fin.ext
  match a with
  | ⟨0, _⟩ => show win0_1.index t0 (0 : Fin 2) * 9216 + 1 * (z 0).val = (z 0).val; omega
  | ⟨1, _⟩ => show win0_1.index t0 (1 : Fin 2) * 1 + 1 * (z 1).val = (z 1).val; omega

theorem emb2 (z : S13568x1408.Idx) : ((cfg0.win 2).blk t0).view.emb z = z := by
  obtain ⟨_, _, _, _, e0, e1, _⟩ := idx_whole t0
  funext a; apply Fin.ext
  match a with
  | ⟨0, _⟩ => show win0_2.index t0 (0 : Fin 2) * 13568 + 1 * (z 0).val = (z 0).val; omega
  | ⟨1, _⟩ => show win0_2.index t0 (1 : Fin 2) * 1408 + 1 * (z 1).val = (z 1).val; omega

theorem emb3 (z : S1x1408.Idx) : ((cfg0.win 3).blk t0).view.emb z = z := by
  obtain ⟨_, _, _, _, _, _, e0, e1, _⟩ := idx_whole t0
  funext a; apply Fin.ext
  match a with
  | ⟨0, _⟩ => show win0_3.index t0 (0 : Fin 2) * 1 + 1 * (z 0).val = (z 0).val; omega
  | ⟨1, _⟩ => show win0_3.index t0 (1 : Fin 2) * 1408 + 1 * (z 1).val = (z 1).val; omega

theorem emb4 (z : S1x1408.Idx) : ((cfg0.win 4).blk t0).view.emb z = z := by
  obtain ⟨_, _, _, _, _, _, _, _, e0, e1, _⟩ := idx_whole t0
  funext a; apply Fin.ext
  match a with
  | ⟨0, _⟩ => show win0_4.index t0 (0 : Fin 2) * 1 + 1 * (z 0).val = (z 0).val; omega
  | ⟨1, _⟩ => show win0_4.index t0 (1 : Fin 2) * 1408 + 1 * (z 1).val = (z 1).val; omega

theorem emb5 (z : S9216x1.Idx) : ((cfg0.win 5).blk t0).view.emb z = z := by
  obtain ⟨_, _, _, _, _, _, _, _, _, _, e0, e1, _⟩ := idx_whole t0
  funext a; apply Fin.ext
  match a with
  | ⟨0, _⟩ => show win0_5.index t0 (0 : Fin 2) * 9216 + 1 * (z 0).val = (z 0).val; omega
  | ⟨1, _⟩ => show win0_5.index t0 (1 : Fin 2) * 1 + 1 * (z 1).val = (z 1).val; omega

theorem emb6 (z : S9216x1408.Idx) : ((cfg0.win 6).blk t0).view.emb z = z := by
  obtain ⟨_, _, _, _, _, _, _, _, _, _, _, _, e0, e1⟩ := idx_whole t0
  funext a; apply Fin.ext
  match a with
  | ⟨0, _⟩ => show win0_6.index t0 (0 : Fin 2) * 9216 + 1 * (z 0).val = (z 0).val; omega
  | ⟨1, _⟩ => show win0_6.index t0 (1 : Fin 2) * 1408 + 1 * (z 1).val = (z 1).val; omega

/-! ## What the region finds in its input arrays: the arguments, reshaped by the host -/

theorem V_main_v0 (c : Dev nD) :
    V m c main_v0 = shapeCast S9216x13568 (m ((c : Thread nD τ).loc main_arg0)) shapeCasts_S3x3072x13568_S9216x13568 := by
  show StableHlo.after hostOps0 _ (Proc.devRef .tc main_v0) = _
  after_results
  rfl

theorem V_main_v1 (c : Dev nD) :
    V m c main_v1 = shapeCast S9216x1 (m ((c : Thread nD τ).loc main_arg1)) shapeCasts_S3x3072x1_S9216x1 := by
  show StableHlo.after hostOps0 _ (Proc.devRef .tc main_v1) = _
  after_results
  rfl

theorem V_main_v2 (c : Dev nD) :
    V m c main_v2 = shapeCast S1x1408 (m ((c : Thread nD τ).loc main_arg3)) shapeCasts_S1408_S1x1408 := by
  show StableHlo.after hostOps0 _ (Proc.devRef .tc main_v2) = _
  after_results
  rfl

theorem V_main_v3 (c : Dev nD) :
    V m c main_v3 = shapeCast S1x1408 (m ((c : Thread nD τ).loc main_arg4)) shapeCasts_S1408_S1x1408 := by
  show StableHlo.after hostOps0 _ (Proc.devRef .tc main_v3) = _
  after_results
  rfl

/-! ## The blocks read: the arrays themselves -/

theorem iblk0 (c : Dev nD) : iblk m c 0 t0 = V m c main_v0 := funext fun (z : S9216x13568.Idx) => by
  show V m c main_v0 (((cfg0.win 0).blk t0).view.emb z) = _
  rw [emb0]

theorem iblk1 (c : Dev nD) : iblk m c 1 t0 = V m c main_v1 := funext fun (z : S9216x1.Idx) => by
  show V m c main_v1 (((cfg0.win 1).blk t0).view.emb z) = _
  rw [emb1]

theorem iblk2 (c : Dev nD) : iblk m c 2 t0 = V m c main_arg2 := funext fun (z : S13568x1408.Idx) => by
  show V m c main_arg2 (((cfg0.win 2).blk t0).view.emb z) = _
  rw [emb2]

theorem iblk3 (c : Dev nD) : iblk m c 3 t0 = V m c main_v2 := funext fun (z : S1x1408.Idx) => by
  show V m c main_v2 (((cfg0.win 3).blk t0).view.emb z) = _
  rw [emb3]

theorem iblk4 (c : Dev nD) : iblk m c 4 t0 = V m c main_v3 := funext fun (z : S1x1408.Idx) => by
  show V m c main_v3 (((cfg0.win 4).blk t0).view.emb z) = _
  rw [emb4]

/-! ## The result arrays -/

/-- The first result array after the run: every row's scale. -/
theorem final5 (c : Dev nD) :
    (dats m 0 c).arrAt 5 cfg0.N
      = scales (M := 9216) (V m c main_v0) (V m c main_v1) (V m c main_arg2) (V m c main_v2) (V m c main_v3) := by
  refine funext fun (i : S9216x1.Idx) => ?_
  obtain ⟨r, hr⟩ : ∃ r : Fin 9216, r = i 0 := ⟨i 0, rfl⟩
  have hi : i = (ix2 r 0 : S9216x1.Idx) := by
    rw [hr]
    exact (eq_ix2 i).trans (congrArg (ix2 (i 0)) (Subsingleton.elim (α := Fin 1) _ _))
  have b : (dats m 0 c).arrAt 5 cfg0.N (((cfg0.win 5).blk t0).view.emb (ix2 r 0 : S9216x1.Idx)) = _ :=
    congrFun (Cert.ReferenceIdeal.Value.blocks5 m c t0 (flush0_5 t0)) (ix2 r 0 : S9216x1.Idx)
  rw [Cert.ReferenceIdeal.Value.flushed5, emb5, iblk0, iblk1, iblk2, iblk3, iblk4] at b
  rw [hi, b]
  refine (show _ = out0_5 (V m c main_v0) (V m c main_v1) (V m c main_arg2) (V m c main_v2) (V m c main_v3) (ix2 r 0 : S9216x1.Idx) from rfl).trans ?_
  rw [RefBlock.out5_apply]
  rfl

/-- The second result array after the run: every row's codes. -/
theorem final6 (c : Dev nD) :
    (dats m 0 c).arrAt 6 cfg0.N
      = codes (M := 9216) (V m c main_v0) (V m c main_v1) (V m c main_arg2) (V m c main_v2) (V m c main_v3) := by
  refine funext fun (i : S9216x1408.Idx) => ?_
  obtain ⟨r, hr⟩ : ∃ r : Fin 9216, r = i 0 := ⟨i 0, rfl⟩
  obtain ⟨j, hj⟩ : ∃ j : Fin 1408, j = i 1 := ⟨i 1, rfl⟩
  have hi : i = (ix2 r j : S9216x1408.Idx) := by
    rw [hr, hj]
    exact eq_ix2 i
  have b : (dats m 0 c).arrAt 6 cfg0.N (((cfg0.win 6).blk t0).view.emb (ix2 r j : S9216x1408.Idx)) = _ :=
    congrFun (Cert.ReferenceIdeal.Value.blocks6 m c t0 (flush0_6 t0)) (ix2 r j : S9216x1408.Idx)
  rw [Cert.ReferenceIdeal.Value.flushed6, emb6, iblk0, iblk1, iblk2, iblk3, iblk4] at b
  rw [hi, b]
  refine (show _ = out0_6 (V m c main_v0) (V m c main_v1) (V m c main_arg2) (V m c main_v2) (V m c main_v3) (ix2 r j : S9216x1408.Idx) from rfl).trans ?_
  rw [RefBlock.out6_apply]
  rfl

/-! ## The run -/

/-- The scales of the arguments. -/
def scalesOf (c : Dev nD) : Buf (Elt Ideal) ((c : Thread nD τ).loc main_v4_0) :=
  scales (M := 9216)
    (shapeCast S9216x13568 (m ((c : Thread nD τ).loc main_arg0)) shapeCasts_S3x3072x13568_S9216x13568)
    (shapeCast S9216x1 (m ((c : Thread nD τ).loc main_arg1)) shapeCasts_S3x3072x1_S9216x1)
    (m ((c : Thread nD τ).loc main_arg2))
    (shapeCast S1x1408 (m ((c : Thread nD τ).loc main_arg3)) shapeCasts_S1408_S1x1408)
    (shapeCast S1x1408 (m ((c : Thread nD τ).loc main_arg4)) shapeCasts_S1408_S1x1408)

/-- The codes of the arguments. -/
def codesOf (c : Dev nD) : Buf (Elt Ideal) ((c : Thread nD τ).loc main_v4_1) :=
  codes (M := 9216)
    (shapeCast S9216x13568 (m ((c : Thread nD τ).loc main_arg0)) shapeCasts_S3x3072x13568_S9216x13568)
    (shapeCast S9216x1 (m ((c : Thread nD τ).loc main_arg1)) shapeCasts_S3x3072x1_S9216x1)
    (m ((c : Thread nD τ).loc main_arg2))
    (shapeCast S1x1408 (m ((c : Thread nD τ).loc main_arg3)) shapeCasts_S1408_S1x1408)
    (shapeCast S1x1408 (m ((c : Thread nD τ).loc main_arg4)) shapeCasts_S1408_S1x1408)

theorem final5' (c : Dev nD) : (dats m 0 c).arrAt 5 cfg0.N = scalesOf m c := by
  rw [final5, V_main_v0, V_main_v1, V_main_arg2, V_main_v2, V_main_v3]; rfl

theorem final6' (c : Dev nD) : (dats m 0 c).arrAt 6 cfg0.N = codesOf m c := by
  rw [final6, V_main_v0, V_main_v1, V_main_arg2, V_main_v2, V_main_v3]; rfl

/-- The reference's run: the scales and the codes of the arguments, the arguments unchanged. -/
theorem run : θ_run (defs (F := Ideal)) (onTc (τ := τ) (main (F := Ideal))) ⟨m, fun _ => 0, ρ⟩ fun r => ∀ c : Dev nD,
      r.2.mem ((c : Thread nD τ).loc main_v4_0) = scalesOf m c
      ∧ r.2.mem ((c : Thread nD τ).loc main_v4_1) = codesOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5' m c), (h c).2.1.trans (final6' m c), (h c).2.2⟩)
    (Cert.ReferenceIdeal.Value.run_blocks (F := Ideal) m ρ)

end Cert.Proof.RefArrays

end
-- ==== Proof.Equation.lean ====
/-
  THE EQUATION (hand-written, untrusted): from equal arguments the kernel's and the reference's result arrays are equal at the extended
  reals, the scales and the codes alike.
-/
module

public import proofs.«01_k».proof.Proof.KernelArrays
public import proofs.«01_k».proof.Proof.RefArrays

@[expose] public section

noncomputable section

namespace Cert.Proof.Equation

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two programs' five arguments are equal on device `c`. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

/-- The reference's scales are the kernel's. -/
theorem scales_eq (c : Dev Cert.KernelIdeal.nD) (h : Agree m m' c) : RefArrays.scalesOf m' c = KernelArrays.scalesOf m c := by
  obtain ⟨h0, h1, h2, h3, h4⟩ := h
  unfold RefArrays.scalesOf
  rw [h0, h1, h2, h3, h4]
  rfl

/-- The reference's codes are the kernel's. -/
theorem codes_eq (c : Dev Cert.KernelIdeal.nD) (h : Agree m m' c) : RefArrays.codesOf m' c = KernelArrays.codesOf m c := by
  obtain ⟨h0, h1, h2, h3, h4⟩ := h
  unfold RefArrays.codesOf
  rw [h0, h1, h2, h3, h4]
  rfl

end Cert.Proof.Equation

end
-- ==== Proof.lean ====
/-
  The proof of `Cert.Claim` (proofs.«01_k».proof.Defs), hand-written, untrusted: the three runs end with every argument unchanged and every
  semaphore at zero (the generated frames), the idealized kernel is the kernel's idealization (`preserves`), and at the extended reals the
  idealized kernel's two results are the reference's (`Equation.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- At the extended reals, from equal arguments, both programs end with the same scales and the same codes. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => KernelArrays.scalesOf m c, fun c => KernelArrays.codesOf m c, KernelArrays.run m ρ, ?_⟩
  exact (θ_run _ _ _).mono (fun r h c =>
    ⟨(h c).1.trans (Equation.scales_eq m m' c (hagree c)), (h c).2.1.trans (Equation.codes_eq m m' c (hagree c)), (h c).2.2⟩)
    (RefArrays.run m' ρ')

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
